-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mean_d" .f32 0x349868C8#32 ((3522560⁻¹ : ℝ) : EReal)
  ∧ IdealRules.named_const.Statement Cert.KernelIdeal.κ "mean_t" .f32 0x32951290#32 ((57622528⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x49 : Shape := ⟨2, ![16384, 49]⟩
abbrev S215x2 : Shape := ⟨2, ![215, 2]⟩
abbrev S3517x3 : Shape := ⟨2, ![3517, 3]⟩
abbrev S215x1 : Shape := ⟨2, ![215, 1]⟩
abbrev S215 : Shape := ⟨1, ![215]⟩
abbrev S_ : Shape := ⟨0, ![]⟩
abbrev S3517x1 : Shape := ⟨2, ![3517, 1]⟩
abbrev S3517 : Shape := ⟨1, ![3517]⟩

class Facts : Prop where
  slices_S215x2_S215x1_0_0 : S215x2.Slices ![0, 0] S215x1
  shapeCasts_S215x1_S215 : S215x1.ShapeCasts S215
  bcast_S_S215 : S_.BroadcastsInDim S215 (![] : Fin 0 → Fin S215.rank)
  reducesTo_S215_S_d0 : S215.ReducesTo [0] S_
  h_S_ : 0 < S_.numel
  slices_S215x2_S215x1_0_1 : S215x2.Slices ![0, 1] S215x1
  slices_S3517x3_S3517x1_0_0 : S3517x3.Slices ![0, 0] S3517x1
  shapeCasts_S3517x1_S3517 : S3517x1.ShapeCasts S3517
  bcast_S_S3517 : S_.BroadcastsInDim S3517 (![] : Fin 0 → Fin S3517.rank)
  reducesTo_S3517_S_d0 : S3517.ReducesTo [0] S_
  slices_S3517x3_S3517x1_0_1 : S3517x3.Slices ![0, 1] S3517x1
  slices_S3517x3_S3517x1_0_2 : S3517x3.Slices ![0, 2] S3517x1

variable [Facts]

def fn_part2 {F : FTy → Type} [FloatOps F] (main_arg2 : IVec S3517x3 32) (main_v31 : IVec S_ 1) (main_v35 : IVec S3517 1) (main_v37 : IVec S3517 32) : IVec S_ 1 :=
  let main_c_9 : IVec S_ 32 := constantI S_ 32 22#32
  let main_v38 : IVec S3517 32 := broadcastInDim S3517 ![] bcast_S_S3517 main_c_9
  let main_v39 : IVec S3517 1 := cmpi .slt main_v37 main_v38
  let main_v40 : IVec S3517 1 := andi main_v35 main_v39
  let main_c_10 : IVec S_ 1 := constantI S_ 1 1#1
  let main_v41 : IVec S_ 1 := (fun x v => Host.reduce IntOp.andi x v reducesTo_S3517_S_d0 h_S_) main_v40 main_c_10
  let main_v42 : IVec S_ 1 := andi main_v31 main_v41
  let main_v43 : IVec S3517x1 32 := (extractStridedSlice S3517x1 ![0, 2] · slices_S3517x3_S3517x1_0_2) main_arg2
  let main_v44 : IVec S3517 32 := shapeCast S3517 main_v43 shapeCasts_S3517x1_S3517
  let main_c_11 : IVec S_ 32 := constantI S_ 32 0#32
  let main_v45 : IVec S3517 32 := broadcastInDim S3517 ![] bcast_S_S3517 main_c_11
  let main_v46 : IVec S3517 1 := cmpi .sge main_v44 main_v45
  let main_v47 : IVec S3517x1 32 := (extractStridedSlice S3517x1 ![0, 2] · slices_S3517x3_S3517x1_0_2) main_arg2
  let main_v48 : IVec S3517 32 := shapeCast S3517 main_v47 shapeCasts_S3517x1_S3517
  let main_c_12 : IVec S_ 32 := constantI S_ 32 16#32
  let main_v49 : IVec S3517 32 := broadcastInDim S3517 ![] bcast_S_S3517 main_c_12
  let main_v50 : IVec S3517 1 := cmpi .slt main_v48 main_v49
  let main_v51 : IVec S3517 1 := andi main_v46 main_v50
  let main_c_13 : IVec S_ 1 := constantI S_ 1 1#1
  let main_v52 : IVec S_ 1 := (fun x v => Host.reduce IntOp.andi x v reducesTo_S3517_S_d0 h_S_) main_v51 main_c_13
  let main_v53 : IVec S_ 1 := andi main_v42 main_v52
  main_v53

def fn_part1 {F : FTy → Type} [FloatOps F] (main_arg2 : IVec S3517x3 32) (main_v9 : IVec S_ 1) (main_v18 : IVec S215 1) : IVec S_ 1 :=
  let main_c_4 : IVec S_ 1 := constantI S_ 1 1#1
  let main_v19 : IVec S_ 1 := (fun x v => Host.reduce IntOp.andi x v reducesTo_S215_S_d0 h_S_) main_v18 main_c_4
  let main_v20 : IVec S_ 1 := andi main_v9 main_v19
  let main_v21 : IVec S3517x1 32 := (extractStridedSlice S3517x1 ![0, 0] · slices_S3517x3_S3517x1_0_0) main_arg2
  let main_v22 : IVec S3517 32 := shapeCast S3517 main_v21 shapeCasts_S3517x1_S3517
  let main_c_5 : IVec S_ 32 := constantI S_ 32 0#32
  let main_v23 : IVec S3517 32 := broadcastInDim S3517 ![] bcast_S_S3517 main_c_5
  let main_v24 : IVec S3517 1 := cmpi .sge main_v22 main_v23
  let main_v25 : IVec S3517x1 32 := (extractStridedSlice S3517x1 ![0, 0] · slices_S3517x3_S3517x1_0_0) main_arg2
  let main_v26 : IVec S3517 32 := shapeCast S3517 main_v25 shapeCasts_S3517x1_S3517
  let main_c_6 : IVec S_ 32 := constantI S_ 32 10#32
  let main_v27 : IVec S3517 32 := broadcastInDim S3517 ![] bcast_S_S3517 main_c_6
  let main_v28 : IVec S3517 1 := cmpi .slt main_v26 main_v27
  let main_v29 : IVec S3517 1 := andi main_v24 main_v28
  let main_c_7 : IVec S_ 1 := constantI S_ 1 1#1
  let main_v30 : IVec S_ 1 := (fun x v => Host.reduce IntOp.andi x v reducesTo_S3517_S_d0 h_S_) main_v29 main_c_7
  let main_v31 : IVec S_ 1 := andi main_v20 main_v30
  let main_v32 : IVec S3517x1 32 := (extractStridedSlice S3517x1 ![0, 1] · slices_S3517x3_S3517x1_0_1) main_arg2
  let main_v33 : IVec S3517 32 := shapeCast S3517 main_v32 shapeCasts_S3517x1_S3517
  let main_c_8 : IVec S_ 32 := constantI S_ 32 0#32
  let main_v34 : IVec S3517 32 := broadcastInDim S3517 ![] bcast_S_S3517 main_c_8
  let main_v35 : IVec S3517 1 := cmpi .sge main_v33 main_v34
  let main_v36 : IVec S3517x1 32 := (extractStridedSlice S3517x1 ![0, 1] · slices_S3517x3_S3517x1_0_1) main_arg2
  let main_v37 : IVec S3517 32 := shapeCast S3517 main_v36 shapeCasts_S3517x1_S3517
  fn_part2 (F := F) main_arg2 main_v31 main_v35 main_v37

def fn {F : FTy → Type} [FloatOps F] (main_arg0 : FVec F S16384x49 .f32) (main_arg1 : IVec S215x2 32) (main_arg2 : IVec S3517x3 32) : IVec S_ 1 :=
  let main_v0 : IVec S215x1 32 := (extractStridedSlice S215x1 ![0, 0] · slices_S215x2_S215x1_0_0) main_arg1
  let main_v1 : IVec S215 32 := shapeCast S215 main_v0 shapeCasts_S215x1_S215
  let main_c : IVec S_ 32 := constantI S_ 32 0#32
  let main_v2 : IVec S215 32 := broadcastInDim S215 ![] bcast_S_S215 main_c
  let main_v3 : IVec S215 1 := cmpi .sge main_v1 main_v2
  let main_v4 : IVec S215x1 32 := (extractStridedSlice S215x1 ![0, 0] · slices_S215x2_S215x1_0_0) main_arg1
  let main_v5 : IVec S215 32 := shapeCast S215 main_v4 shapeCasts_S215x1_S215
  let main_c_0 : IVec S_ 32 := constantI S_ 32 10#32
  let main_v6 : IVec S215 32 := broadcastInDim S215 ![] bcast_S_S215 main_c_0
  let main_v7 : IVec S215 1 := cmpi .slt main_v5 main_v6
  let main_v8 : IVec S215 1 := andi main_v3 main_v7
  let main_c_1 : IVec S_ 1 := constantI S_ 1 1#1
  let main_v9 : IVec S_ 1 := (fun x v => Host.reduce IntOp.andi x v reducesTo_S215_S_d0 h_S_) main_v8 main_c_1
  let main_v10 : IVec S215x1 32 := (extractStridedSlice S215x1 ![0, 1] · slices_S215x2_S215x1_0_1) main_arg1
  let main_v11 : IVec S215 32 := shapeCast S215 main_v10 shapeCasts_S215x1_S215
  let main_c_2 : IVec S_ 32 := constantI S_ 32 0#32
  let main_v12 : IVec S215 32 := broadcastInDim S215 ![] bcast_S_S215 main_c_2
  let main_v13 : IVec S215 1 := cmpi .sge main_v11 main_v12
  let main_v14 : IVec S215x1 32 := (extractStridedSlice S215x1 ![0, 1] · slices_S215x2_S215x1_0_1) main_arg1
  let main_v15 : IVec S215 32 := shapeCast S215 main_v14 shapeCasts_S215x1_S215
  let main_c_3 : IVec S_ 32 := constantI S_ 32 22#32
  let main_v16 : IVec S215 32 := broadcastInDim S215 ![] bcast_S_S215 main_c_3
  let main_v17 : IVec S215 1 := cmpi .slt main_v15 main_v16
  let main_v18 : IVec S215 1 := andi main_v13 main_v17
  fn_part1 (F := F) main_arg2 main_v9 main_v18
-- ==== Kernel.lean ====
abbrev S16384x49 : Shape := ⟨2, ![16384, 49]⟩
abbrev S215x2 : Shape := ⟨2, ![215, 2]⟩
abbrev S3517x3 : Shape := ⟨2, ![3517, 3]⟩
abbrev S1x1 : Shape := ⟨2, ![1, 1]⟩
abbrev S1024x49 : Shape := ⟨2, ![1024, 49]⟩
abbrev S10x24 : Shape := ⟨2, ![10, 24]⟩
abbrev S10x384 : Shape := ⟨2, ![10, 384]⟩
abbrev S215x1 : Shape := ⟨2, ![215, 1]⟩
abbrev S215x24 : Shape := ⟨2, ![215, 24]⟩
abbrev S10x215 : Shape := ⟨2, ![10, 215]⟩
abbrev S1x215 : Shape := ⟨2, ![1, 215]⟩
abbrev S3517x1 : Shape := ⟨2, ![3517, 1]⟩
abbrev S3517x384 : Shape := ⟨2, ![3517, 384]⟩
abbrev S10x3517 : Shape := ⟨2, ![10, 3517]⟩
abbrev S1x3517 : Shape := ⟨2, ![1, 3517]⟩
abbrev S49x1024 : Shape := ⟨2, ![49, 1024]⟩
abbrev S10x1024 : Shape := ⟨2, ![10, 1024]⟩
abbrev S24x1024 : Shape := ⟨2, ![24, 1024]⟩
abbrev S16x1024 : Shape := ⟨2, ![16, 1024]⟩
abbrev S16x1x1024 : Shape := ⟨3, ![16, 1, 1024]⟩
abbrev S16x24x1024 : Shape := ⟨3, ![16, 24, 1024]⟩
abbrev S1x1024 : Shape := ⟨2, ![1, 1024]⟩
abbrev S1x24 : Shape := ⟨2, ![1, 24]⟩
abbrev S1x24x1024 : Shape := ⟨3, ![1, 24, 1024]⟩
abbrev S1x384 : Shape := ⟨2, ![1, 384]⟩
abbrev S384x1024 : Shape := ⟨2, ![384, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x49, .f32⟩
  | .hbm, ⟨1, _⟩ => ⟨S215x2, .i32⟩
  | .hbm, ⟨2, _⟩ => ⟨S3517x3, .i32⟩
  | .hbm, ⟨3, _⟩ => ⟨S1x1, .f32⟩
  | .hbm, ⟨4, _⟩ => ⟨S1, .f32⟩
  | .local _ .vmem, ⟨0, _⟩ => ⟨S1024x49, .f32⟩
  | .local _ .vmem, ⟨1, _⟩ => ⟨S1024x49, .f32⟩
  | .local _ .vmem, ⟨2, _⟩ => ⟨S215x2, .i32⟩
  | .local _ .vmem, ⟨3, _⟩ => ⟨S3517x3, .i32⟩
  | .local _ .vmem, ⟨4, _⟩ => ⟨S1x1, .f32⟩
  | .local _ .vmem, ⟨5, _⟩ => ⟨S10x24, .f32⟩
  | .local _ .vmem, ⟨6, _⟩ => ⟨S10x384, .f32⟩
  | _, _ => ⟨S16384x49, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S215x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3517x3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mean_d" => some ((3522560⁻¹ : ℝ) : EReal)
  | "mean_t" => some ((57622528⁻¹ : ℝ) : EReal)
  | _ => none
-- ==== ReferenceIdeal.lean ====
abbrev S16384x49 : Shape := ⟨2, ![16384, 49]⟩
abbrev S215x2 : Shape := ⟨2, ![215, 2]⟩
abbrev S3517x3 : Shape := ⟨2, ![3517, 3]⟩
abbrev S_ : Shape := ⟨0, ![]⟩
abbrev S1 : Shape := ⟨1, ![1]⟩
abbrev S215x1 : Shape := ⟨2, ![215, 1]⟩
abbrev S215 : Shape := ⟨1, ![215]⟩
abbrev S1x1 : Shape := ⟨2, ![1, 1]⟩
abbrev S16384x215 : Shape := ⟨2, ![16384, 215]⟩
abbrev S3517x1 : Shape := ⟨2, ![3517, 1]⟩
abbrev S3517 : Shape := ⟨1, ![3517]⟩
abbrev S16384x3517 : Shape := ⟨2, ![16384, 3517]⟩

abbrev nBuf : Space → Nat
  | .hbm => 163
  | .vmem => 0
  | .smem => 0
  | _ => 0

abbrev hbmTy0_0 (i : Nat) : BufTy := match i % 128 with
  | 0 => ⟨S16384x49, .f32⟩
  | 1 => ⟨S215x2, .i32⟩
  | 2 => ⟨S3517x3, .i32⟩
  | 3 => ⟨S_, .f32⟩
  | 4 => ⟨S1, .f32⟩
  | 5 => ⟨S215x1, .i32⟩
  | 6 => ⟨S215, .i32⟩
  | 7 => ⟨S_, .i32⟩
  | 8 => ⟨S215, .i32⟩
  | 9 => ⟨S215, .i32⟩
  | 10 => ⟨S_, .i32⟩
  | 11 => ⟨S215, .i32⟩
  | 12 => ⟨S215, .i1⟩
  | 13 => ⟨S_, .i32⟩
  | 14 => ⟨S215, .i32⟩
  | 15 => ⟨S215, .i32⟩
  | 16 => ⟨S215, .i32⟩
  | 17 => ⟨S215x1, .i32⟩
  | 18 => ⟨S1, .i32⟩
  | 19 => ⟨S_, .i32⟩
  | 20 => ⟨S215x1, .i32⟩
  | 21 => ⟨S215x1, .i1⟩
  | 22 => ⟨S1x1, .i32⟩
  | 23 => ⟨S215x1, .i32⟩
  | 24 => ⟨S215x1, .i1⟩
  | 25 => ⟨S215x1, .i1⟩
  | 26 => ⟨S_, .i1⟩
  | 27 => ⟨S215, .i1⟩
  | 28 => ⟨S16384x215, .f32⟩
  | 29 => ⟨S16384x215, .i1⟩
  | 30 => ⟨S_, .f32⟩
  | 31 => ⟨S16384x215, .f32⟩
  | 32 => ⟨S16384x215, .f32⟩
  | 33 => ⟨S215x1, .i32⟩
  | 34 => ⟨S215, .i32⟩
  | 35 => ⟨S_, .i32⟩
  | 36 => ⟨S215, .i32⟩
  | 37 => ⟨S215, .i32⟩
  | 38 => ⟨S_, .i32⟩
  | 39 => ⟨S215, .i32⟩
  | 40 => ⟨S215, .i1⟩
  | 41 => ⟨S_, .i32⟩
  | 42 => ⟨S215, .i32⟩
  | 43 => ⟨S215, .i32⟩
  | 44 => ⟨S215, .i32⟩
  | 45 => ⟨S215x1, .i32⟩
  | 46 => ⟨S1, .i32⟩
  | 47 => ⟨S_, .i32⟩
  | 48 => ⟨S215x1, .i32⟩
  | 49 => ⟨S215x1, .i1⟩
  | 50 => ⟨S1x1, .i32⟩
  | 51 => ⟨S215x1, .i32⟩
  | 52 => ⟨S215x1, .i1⟩
  | 53 => ⟨S215x1, .i1⟩
  | 54 => ⟨S_, .i1⟩
  | 55 => ⟨S215, .i1⟩
  | 56 => ⟨S16384x215, .f32⟩
  | 57 => ⟨S16384x215, .i1⟩
  | 58 => ⟨S_, .f32⟩
  | 59 => ⟨S16384x215, .f32⟩
  | 60 => ⟨S16384x215, .f32⟩
  | 61 => ⟨S16384x215, .f32⟩
  | 62 => ⟨S_, .f32⟩
  | 63 => ⟨S_, .f32⟩
  | 64 => ⟨S_, .f32⟩
  | 65 => ⟨S_, .f32⟩
  | 66 => ⟨S1, .f32⟩
  | 67 => ⟨S1, .f32⟩
  | 68 => ⟨S3517x1, .i32⟩
  | 69 => ⟨S3517, .i32⟩
  | 70 => ⟨S_, .i32⟩
  | 71 => ⟨S3517, .i32⟩
  | 72 => ⟨S3517, .i32⟩
  | 73 => ⟨S_, .i32⟩
  | 74 => ⟨S3517, .i32⟩
  | 75 => ⟨S3517, .i1⟩
  | 76 => ⟨S_, .i32⟩
  | 77 => ⟨S3517, .i32⟩
  | 78 => ⟨S3517, .i32⟩
  | 79 => ⟨S3517, .i32⟩
  | 80 => ⟨S3517x1, .i32⟩
  | 81 => ⟨S1, .i32⟩
  | 82 => ⟨S_, .i32⟩
  | 83 => ⟨S3517x1, .i32⟩
  | 84 => ⟨S3517x1, .i1⟩
  | 85 => ⟨S1x1, .i32⟩
  | 86 => ⟨S3517x1, .i32⟩
  | 87 => ⟨S3517x1, .i1⟩
  | 88 => ⟨S3517x1, .i1⟩
  | 89 => ⟨S_, .i1⟩
  | 90 => ⟨S3517, .i1⟩
  | 91 => ⟨S16384x3517, .f32⟩
  | 92 => ⟨S16384x3517, .i1⟩
  | 93 => ⟨S_, .f32⟩
  | 94 => ⟨S16384x3517, .f32⟩
  | 95 => ⟨S16384x3517, .f32⟩
  | 96 => ⟨S3517x1, .i32⟩
  | 97 => ⟨S3517, .i32⟩
  | 98 => ⟨S_, .i32⟩
  | 99 => ⟨S3517, .i32⟩
  | 100 => ⟨S3517, .i32⟩
  | 101 => ⟨S_, .i32⟩
  | 102 => ⟨S3517, .i32⟩
  | 103 => ⟨S3517, .i1⟩
  | 104 => ⟨S_, .i32⟩
  | 105 => ⟨S3517, .i32⟩
  | 106 => ⟨S3517, .i32⟩
  | 107 => ⟨S3517, .i32⟩
  | 108 => ⟨S3517x1, .i32⟩
  | 109 => ⟨S1, .i32⟩
  | 110 => ⟨S_, .i32⟩
  | 111 => ⟨S3517x1, .i32⟩
  | 112 => ⟨S3517x1, .i1⟩
  | 113 => ⟨S1x1, .i32⟩
  | 114 => ⟨S3517x1, .i32⟩
  | 115 => ⟨S3517x1, .i1⟩
  | 116 => ⟨S3517x1, .i1⟩
  | 117 => ⟨S_, .i1⟩
  | 118 => ⟨S3517, .i1⟩
  | 119 => ⟨S16384x3517, .f32⟩
  | 120 => ⟨S16384x3517, .i1⟩
  | 121 => ⟨S_, .f32⟩
  | 122 => ⟨S16384x3517, .f32⟩
  | 123 => ⟨S16384x3517, .f32⟩
  | 124 => ⟨S3517x1, .i32⟩
  | 125 => ⟨S3517, .i32⟩
  | 126 => ⟨S_, .i32⟩
  | 127 => ⟨S3517, .i32⟩
  | _ => ⟨S16384x49, .f32⟩

abbrev hbmTy0_1 (i : Nat) : BufTy := match i % 128 with
  | 0 => ⟨S3517, .i32⟩
  | 1 => ⟨S_, .i32⟩
  | 2 => ⟨S3517, .i32⟩
  | 3 => ⟨S3517, .i1⟩
  | 4 => ⟨S_, .i32⟩
  | 5 => ⟨S3517, .i32⟩
  | 6 => ⟨S3517, .i32⟩
  | 7 => ⟨S3517, .i32⟩
  | 8 => ⟨S3517x1, .i32⟩
  | 9 => ⟨S1, .i32⟩
  | 10 => ⟨S_, .i32⟩
  | 11 => ⟨S3517x1, .i32⟩
  | 12 => ⟨S3517x1, .i1⟩
  | 13 => ⟨S1x1, .i32⟩
  | 14 => ⟨S3517x1, .i32⟩
  | 15 => ⟨S3517x1, .i1⟩
  | 16 => ⟨S3517x1, .i1⟩
  | 17 => ⟨S_, .i1⟩
  | 18 => ⟨S3517, .i1⟩
  | 19 => ⟨S16384x3517, .f32⟩
  | 20 => ⟨S16384x3517, .i1⟩
  | 21 => ⟨S_, .f32⟩
  | 22 => ⟨S16384x3517, .f32⟩
  | 23 => ⟨S16384x3517, .f32⟩
  | 24 => ⟨S16384x3517, .f32⟩
  | 25 => ⟨S16384x3517, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S_, .f32⟩
  | 33 => ⟨S1, .f32⟩
  | 34 => ⟨S1, .f32⟩
  | _ => ⟨S16384x49, .f32⟩

abbrev hbmTy (i : Nat) : BufTy := match i / 128 with
  | 0 => hbmTy0_0 i
  | 1 => hbmTy0_1 i
  | _ => ⟨S16384x49, .f32⟩

abbrev bufTy : (tb : Table) → Fin (tcTables nBuf tb) → BufTy
  | .hbm, ⟨i, _⟩ => hbmTy i
  | _, _ => ⟨S16384x49, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v10 : Ref sig .tc := ⟨.hbm, 60, rfl⟩
abbrev main_v11 : Ref sig .tc := ⟨.hbm, 61, rfl⟩
abbrev main_cst_1 : Ref sig .tc := ⟨.hbm, 62, rfl⟩
abbrev main_v12 : Ref sig .tc := ⟨.hbm, 63, rfl⟩
abbrev main_cst_2 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_c_3 : Ref sig .tc := ⟨.hbm, 70, rfl⟩
abbrev main_v18 : Ref sig .tc := ⟨.hbm, 71, rfl⟩
abbrev main_v19 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_c_4 : Ref sig .tc := ⟨.hbm, 98, rfl⟩
abbrev main_v23 : Ref sig .tc := ⟨.hbm, 99, rfl⟩
abbrev main_v24 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_c_5 : Ref sig .tc := ⟨.hbm, 126, rfl⟩
abbrev main_v28 : Ref sig .tc := ⟨.hbm, 127, rfl⟩
abbrev main_v29 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_cst_6 : Ref sig .tc := ⟨.hbm, 154, rfl⟩
abbrev main_v33 : Ref sig .tc := ⟨.hbm, 155, rfl⟩
abbrev main_cst_7 : Ref sig .tc := ⟨.hbm, 156, rfl⟩
abbrev main_v34 : Ref sig .tc := ⟨.hbm, 157, rfl⟩
abbrev main_v35 : Ref sig .tc := ⟨.hbm, 158, rfl⟩
abbrev main_v36 : Ref sig .tc := ⟨.hbm, 159, rfl⟩
abbrev main_cst_8 : Ref sig .tc := ⟨.hbm, 160, rfl⟩
abbrev main_v37 : Ref sig .tc := ⟨.hbm, 161, rfl⟩
abbrev main_v38 : Ref sig .tc := ⟨.hbm, 162, rfl⟩

abbrev nD : Nat := 1
abbrev τ : Topo := Topo.v7x

variable {F : FTy → Type} [FloatOps F]
-- ==== Proof.Terms.lean ====
/- The two terms of the loss in plain mathematics: for a row of predictions, the minimum of two columns summed over the
   pair table, and the minimum of three columns summed over the triple table. -/
module

public import Idealize.ShloMosaic.PureOps.Ideal
public import Idealize.ShloMosaic.Lib.Pointwise

@[expose] public section

noncomputable section

namespace Cert.Terms

open Idealize.ShloMosaic

/-- Column `off + v` of the predictions. -/
def col (off : ℕ) (v : BitVec 32) : Fin 49 := ⟨(off + v.toNat) % 49, Nat.mod_lt _ (by decide)⟩

theorem col_val {off b : ℕ} {v : BitVec 32} (h : v.toNat < b) (hb : off + b ≤ 49) : (col off v).val = off + v.toNat :=
  Nat.mod_eq_of_lt (by omega)

/-- The tables name agents below 10, actions below 22 and locations below 16. -/
structure InRange (P : IVec ⟨2, ![215, 2]⟩ 32) (T : IVec ⟨2, ![3517, 3]⟩ 32) : Prop where
  p0 : ∀ q, (P (ix2 q 0)).toNat < 10
  p1 : ∀ q, (P (ix2 q 1)).toNat < 22
  t0 : ∀ q, (T (ix2 q 0)).toNat < 10
  t1 : ∀ q, (T (ix2 q 1)).toNat < 22
  t2 : ∀ q, (T (ix2 q 2)).toNat < 16

variable {N : ℕ}

/-- Row `n`'s pair term. -/
def pairRow (x : FVec Ideal ⟨2, ![N, 49]⟩ .f32) (P : IVec ⟨2, ![215, 2]⟩ 32) (n : Fin N) : EReal :=
  ∑ q : Fin 215, min (x (ix2 n (col 1 (P (ix2 q 0))))) (x (ix2 n (col 11 (P (ix2 q 1)))))

/-- Row `n`'s triple term. -/
def tripleRow (x : FVec Ideal ⟨2, ![N, 49]⟩ .f32) (T : IVec ⟨2, ![3517, 3]⟩ 32) (n : Fin N) : EReal :=
  ∑ q : Fin 3517, min (min (x (ix2 n (col 1 (T (ix2 q 0))))) (x (ix2 n (col 11 (T (ix2 q 1))))))
    (x (ix2 n (col 33 (T (ix2 q 2)))))

end Cert.Terms

end
-- ==== Proof.PreRange.lean ====
/- The precondition as facts about the two tables. -/
module

public import proofs.«01_k».proof.Pre_in_range
public import proofs.«01_k».proof.Proof.Gen.Pre_in_range
public import proofs.«01_k».proof.Proof.Terms
public import Idealize.ShloMosaic.Lib.ReduceAll

@[expose] public section

set_option maxRecDepth 16384

noncomputable section

namespace Cert.PreRange

open Cert.Pre_in_range Cert.Pre_in_range.Gen Idealize.ShloMosaic Cert.Terms

/-- A word that, read signed, is at least zero and below a small bound is below it. -/
theorem lt_of_checks {v b : BitVec 32} (hb : b.toNat < 2 ^ 31)
    (e : IntOp.andi (IntOp.cmpi .sge v 0#32) (IntOp.cmpi .slt v b) = 1#1) : v.toNat < b.toNat := by
  obtain ⟨h1, h2⟩ := IntOp.andi_eq_one.1 e
  have g1 : (0 : ℤ) ≤ v.toInt := IntOp.cmpi_sge.1 h1
  have g2 : v.toInt < b.toInt := IntOp.cmpi_slt.1 h2
  have eb := BitVec.toInt_eq_toNat_cond b
  have ev := BitVec.toInt_eq_toNat_cond v
  have hv := v.isLt
  split at eb <;> split at ev <;> omega

/-- The precondition says that the tables are in range. -/
theorem inRange (x0 : FVec Ideal S16384x49 .f32) (x1 : IVec S215x2 32) (x2 : IVec S3517x3 32)
    (e : fn (F := Ideal) x0 x1 x2 = fun _ => 1#1) : InRange x1 x2 := by
  have e0 := congrFun e ix0
  unfold fn fn_part1 fn_part2 at e0
  obtain ⟨e0, e5⟩ := IntOp.andi_eq_one.1 e0
  obtain ⟨e0, e4⟩ := IntOp.andi_eq_one.1 e0
  obtain ⟨e0, e3⟩ := IntOp.andi_eq_one.1 e0
  obtain ⟨e1, e2⟩ := IntOp.andi_eq_one.1 e0
  haveI : Subsingleton S_.Idx := ⟨fun a b => funext fun i => i.elim0⟩
  refine ⟨fun q => ?_, fun q => ?_, fun q => ?_, fun q => ?_, fun q => ?_⟩
  · have g := Host.reduce_andi_all _ _ _ _ _ e1 (ix1 q)
    pointwise [] at g
    exact lt_of_checks (by decide) g
  · have g := Host.reduce_andi_all _ _ _ _ _ e2 (ix1 q)
    pointwise [] at g
    exact lt_of_checks (by decide) g
  · have g := Host.reduce_andi_all _ _ _ _ _ e3 (ix1 q)
    pointwise [] at g
    exact lt_of_checks (by decide) g
  · have g := Host.reduce_andi_all _ _ _ _ _ e4 (ix1 q)
    pointwise [] at g
    exact lt_of_checks (by decide) g
  · have g := Host.reduce_andi_all _ _ _ _ _ e5 (ix1 q)
    pointwise [] at g
    exact lt_of_checks (by decide) g

end Cert.PreRange

end
-- ==== Proof.KPieces.lean ====
/- What one grid point of the kernel leaves in its output and its two mask arrays: the stores its run found, read
   back as values of the blocks it loads. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- Zero offsets, as a function. -/
theorem hz : (![0, 0] : Fin 2 → Nat) = fun _ => 0 := funext fun a => by fin_cases a <;> rfl

/-- One store over a whole buffer, read back through a rectangle, is that rectangle of the stored value. -/
theorem readCov_single {Val : EltTy → Type} [∀ e, Nonempty (Val e)] {S : Shape} {e : EltTy} {κ : Kind} {sp : Space}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon', View.canon_unit_zero h]

/-- The mask of the pair term, of the pair table's two columns. -/
def maskD (x1 : Vec F S215x2 .i32) : Vec F S10x24 .f32 :=
  k0_pay2 (View.ld x1 (Rect.unit (s := S215x2) ![0, 1] S215x1.size inb_S215x2_S215x1_0_1))
    (View.ld x1 (Rect.unit (s := S215x2) ![0, 0] S215x1.size inb_S215x2_S215x1_0_0))

/-- The mask of the triple term, of the triple table's three columns. -/
def maskT (x2 : Vec F S3517x3 .i32) : Vec F S10x384 .f32 :=
  k0_pay3 (View.ld x2 (Rect.unit (s := S3517x3) ![0, 2] S3517x1.size inb_S3517x3_S3517x1_0_2))
    (View.ld x2 (Rect.unit (s := S3517x3) ![0, 1] S3517x1.size inb_S3517x3_S3517x1_0_1))
    (View.ld x2 (Rect.unit (s := S3517x3) ![0, 0] S3517x1.size inb_S3517x3_S3517x1_0_0))

/-- The pair term's running row after agents 0 to 7, of a block and the pair mask. -/
def accD7 (x0 : Vec F S1024x49 .f32) (wd : Vec F S10x24 .f32) : FVec F S1x1024 .f32 :=
  k0_pay22 (k0_pay6 x0) (k0_pay7 x0)
    (k0_pay17 (k0_pay6 x0) (k0_pay7 x0) (k0_pay11 x0 (View.ld wd (Rect.unit (s := S10x24) ![0, 0] S1x24.size inb_S10x24_S1x24_0_0)) (View.ld wd (Rect.unit (s := S10x24) ![1, 0] S1x24.size inb_S10x24_S1x24_1_0))) (k0_pay13 x0) (View.ld wd (Rect.unit (s := S10x24) ![2, 0] S1x24.size inb_S10x24_S1x24_2_0)) (View.ld wd (Rect.unit (s := S10x24) ![3, 0] S1x24.size inb_S10x24_S1x24_3_0)) (View.ld wd (Rect.unit (s := S10x24) ![4, 0] S1x24.size inb_S10x24_S1x24_4_0)))
    (k0_pay19 (k0_pay6 x0) (k0_pay7 x0)) (View.ld wd (Rect.unit (s := S10x24) ![5, 0] S1x24.size inb_S10x24_S1x24_5_0)) (View.ld wd (Rect.unit (s := S10x24) ![6, 0] S1x24.size inb_S10x24_S1x24_6_0)) (View.ld wd (Rect.unit (s := S10x24) ![7, 0] S1x24.size inb_S10x24_S1x24_7_0))

/-- The triple term's running row after agents 0 to 7, of a block and the triple mask. -/
def accT7 (x0 : Vec F S1024x49 .f32) (wt : Vec F S10x384 .f32) : FVec F S1x1024 .f32 :=
  k0_pay23 (k0_pay6 x0) (k0_pay7 x0) (k0_pay8 x0)
    (k0_pay18 (k0_pay6 x0) (k0_pay7 x0) (k0_pay8 x0) (k0_pay12 x0 (View.ld wt (Rect.unit (s := S10x384) ![0, 0] S1x384.size inb_S10x384_S1x384_0_0)) (View.ld wt (Rect.unit (s := S10x384) ![1, 0] S1x384.size inb_S10x384_S1x384_1_0))) (k0_pay13 x0) (View.ld wt (Rect.unit (s := S10x384) ![2, 0] S1x384.size inb_S10x384_S1x384_2_0)) (View.ld wt (Rect.unit (s := S10x384) ![3, 0] S1x384.size inb_S10x384_S1x384_3_0)) (View.ld wt (Rect.unit (s := S10x384) ![4, 0] S1x384.size inb_S10x384_S1x384_4_0)))
    (k0_pay19 (k0_pay6 x0) (k0_pay7 x0)) (View.ld wt (Rect.unit (s := S10x384) ![5, 0] S1x384.size inb_S10x384_S1x384_5_0)) (View.ld wt (Rect.unit (s := S10x384) ![6, 0] S1x384.size inb_S10x384_S1x384_6_0)) (View.ld wt (Rect.unit (s := S10x384) ![7, 0] S1x384.size inb_S10x384_S1x384_7_0))

/-- The output after a point, of its block, the two masks and the output before it. -/
def step (x0 : Vec F S1024x49 .f32) (wd : Vec F S10x24 .f32) (wt : Vec F S10x384 .f32) (o : Vec F S1x1 .f32) :
    Vec F S1x1 .f32 :=
  k0_pay1 (k0_pay6 x0) (k0_pay7 x0) (k0_pay8 x0) (accD7 x0 wd) (accT7 x0 wt) (k0_pay24 (k0_pay6 x0) (k0_pay7 x0))
    (View.ld wd (Rect.unit (s := S10x24) ![8, 0] S1x24.size inb_S10x24_S1x24_8_0)) (constant S1x1024 .f32 0x00000000#32) (View.ld wt (Rect.unit (s := S10x384) ![8, 0] S1x384.size inb_S10x384_S1x384_8_0)) (View.ld wd (Rect.unit (s := S10x24) ![9, 0] S1x24.size inb_S10x24_S1x24_9_0)) (View.ld wt (Rect.unit (s := S10x384) ![9, 0] S1x384.size inb_S10x384_S1x384_9_0)) o

/-- A point after the first adds its block onto the output it finds. -/
theorem out_B (c : Dev nD) (i : grid0.Coords) (arg1 : Memref sig .tc .vmem S1024x49 .f32) (harg1 : arg1.IsWhole) (arg2 : Memref sig .tc .vmem S215x2 .i32) (harg2 : arg2.IsWhole) (arg3 : Memref sig .tc .vmem S3517x3 .i32) (harg3 : arg3.IsWhole) (arg4 : Memref sig .tc .vmem S1x1 .f32) (harg4 : arg4.IsWhole) (arg5 : Memref sig .tc .vmem S10x24 .f32) (harg5 : arg5.IsWhole) (arg6 : Memref sig .tc .vmem S10x384 .f32) (harg6 : arg6.IsWhole) (hc0 : ¬cond0_0 i)
    (x0 : Vec F S1024x49 .f32) (x1 : Vec F S215x2 .i32) (x2 : Vec F S3517x3 .i32) (xo3 : Vec F S1x1 .f32) (xs0 : Vec F S10x24 .f32) (xs1 : Vec F S10x384 .f32) :
    out0_B_3 c i arg1 harg1 arg2 harg2 arg3 harg3 arg4 harg4 arg5 harg5 arg6 harg6 hc0 x0 x1 x2 xo3 xs0 xs1 = step x0 xs0 xs1 xo3 := by
  unfold out0_B_3
  rw [View.read_writes_eq_canon _ _ _ (cover0_B_3 c i arg1 harg1 arg2 harg2 arg3 harg3 arg4 harg4 arg5 harg5 arg6 harg6 hc0 x0 x1 x2 xo3 xs0 xs1)]
  unfold kernelRun0_B
  dsimp only
  sl_unfold_words
  rw [View.canon_unit_zero hz]
  simp only [View.readAt_eq_ld, harg1.read_unread, harg4.read_unread, harg5.read_unread, harg6.read_unread, View.ld_unit_zero (S := S1x1) hz, View.ld_unit_zero (S := S1024x49) hz]
  rfl

/-- The first point writes the pair mask, -/
theorem mask_D (c : Dev nD) (i : grid0.Coords) (arg1 : Memref sig .tc .vmem S1024x49 .f32) (harg1 : arg1.IsWhole) (arg2 : Memref sig .tc .vmem S215x2 .i32) (harg2 : arg2.IsWhole) (arg3 : Memref sig .tc .vmem S3517x3 .i32) (harg3 : arg3.IsWhole) (arg4 : Memref sig .tc .vmem S1x1 .f32) (harg4 : arg4.IsWhole) (arg5 : Memref sig .tc .vmem S10x24 .f32) (harg5 : arg5.IsWhole) (arg6 : Memref sig .tc .vmem S10x384 .f32) (harg6 : arg6.IsWhole) (hc0 : cond0_0 i)
    (x0 : Vec F S1024x49 .f32) (x1 : Vec F S215x2 .i32) (x2 : Vec F S3517x3 .i32) :
    sout0_A_0 c i arg1 harg1 arg2 harg2 arg3 harg3 arg4 harg4 arg5 harg5 arg6 harg6 hc0 x0 x1 x2 = maskD x1 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread]
  rfl

/-- the triple mask, -/
theorem mask_T (c : Dev nD) (i : grid0.Coords) (arg1 : Memref sig .tc .vmem S1024x49 .f32) (harg1 : arg1.IsWhole) (arg2 : Memref sig .tc .vmem S215x2 .i32) (harg2 : arg2.IsWhole) (arg3 : Memref sig .tc .vmem S3517x3 .i32) (harg3 : arg3.IsWhole) (arg4 : Memref sig .tc .vmem S1x1 .f32) (harg4 : arg4.IsWhole) (arg5 : Memref sig .tc .vmem S10x24 .f32) (harg5 : arg5.IsWhole) (arg6 : Memref sig .tc .vmem S10x384 .f32) (harg6 : arg6.IsWhole) (hc0 : cond0_0 i)
    (x0 : Vec F S1024x49 .f32) (x1 : Vec F S215x2 .i32) (x2 : Vec F S3517x3 .i32) :
    sout0_A_1 c i arg1 harg1 arg2 harg2 arg3 harg3 arg4 harg4 arg5 harg5 arg6 harg6 hc0 x0 x1 x2 = maskT x2 := by
  unfold sout0_A_1
  rw [View.read_writes_eq_canon _ _ _ (scover0_A_1 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg3.read_unread]
  rfl

/-- and adds its block onto the zero it has just stored. -/
theorem out_A (c : Dev nD) (i : grid0.Coords) (arg1 : Memref sig .tc .vmem S1024x49 .f32) (harg1 : arg1.IsWhole) (arg2 : Memref sig .tc .vmem S215x2 .i32) (harg2 : arg2.IsWhole) (arg3 : Memref sig .tc .vmem S3517x3 .i32) (harg3 : arg3.IsWhole) (arg4 : Memref sig .tc .vmem S1x1 .f32) (harg4 : arg4.IsWhole) (arg5 : Memref sig .tc .vmem S10x24 .f32) (harg5 : arg5.IsWhole) (arg6 : Memref sig .tc .vmem S10x384 .f32) (harg6 : arg6.IsWhole) (hc0 : cond0_0 i)
    (x0 : Vec F S1024x49 .f32) (x1 : Vec F S215x2 .i32) (x2 : Vec F S3517x3 .i32) :
    out0_A_3 c i arg1 harg1 arg2 harg2 arg3 harg3 arg4 harg4 arg5 harg5 arg6 harg6 hc0 x0 x1 x2 = step x0 (maskD x1) (maskT x2) k0_pay4 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, View.ld_unit_zero (S := S1024x49) hz, readCov_single (S := S10x24) _ hz, readCov_single (S := S10x384) _ hz]
  rfl

end Cert.KernelIdeal.Value

end
-- ==== Proof.KRun.lean ====
/- What the kernel's run leaves: the one-element output after each grid point, by recursion on the point, and the
   result buffer at the output after the last point. -/
module

public import proofs.«01_k».proof.Proof.KPieces
public import Idealize.ShloMosaic.Lib.StableHlo.Run

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The predictions, the pair table and the triple table of core `c`. -/
abbrev preds (c : Dev nD) : Vec F S16384x49 .f32 := m ((c.tc : Thread nD τ).loc main_arg0)
abbrev pairs (c : Dev nD) : Vec F S215x2 .i32 := m ((c.tc : Thread nD τ).loc main_arg1)
abbrev triples (c : Dev nD) : Vec F S3517x3 .i32 := m ((c.tc : Thread nD τ).loc main_arg2)

/-- The pair table's block at any point is the whole table. -/
theorem iblk1 (c : Dev nD) (t : Fin cfg0.N) : (iblk m c 1 t : Vec F S215x2 .i32) = pairs m c := by
  have hz' : (fun a => win0_1.index t a * main_arg1.ty.shape.size a) = fun _ => 0 :=
    funext fun a => by fin_cases a <;> exact Nat.zero_mul _
  exact Memref.read_access_unit_zero (Elt F) main_arg1 hz' (fun a => by rw [congrFun hz' a]; simp) _

/-- The triple table's block at any point is the whole table. -/
theorem iblk2 (c : Dev nD) (t : Fin cfg0.N) : (iblk m c 2 t : Vec F S3517x3 .i32) = triples m c := by
  have hz' : (fun a => win0_2.index t a * main_arg2.ty.shape.size a) = fun _ => 0 :=
    funext fun a => by fin_cases a <;> exact Nat.zero_mul _
  exact Memref.read_access_unit_zero (Elt F) main_arg2 hz' (fun a => by rw [congrFun hz' a]; simp) _

/-- The predictions' block at point `t`, row `r`, is row `1024 t + r`. -/
theorem iblk0_apply (c : Dev nD) (t : Fin cfg0.N) (j : S1024x49.Idx) (k : S16384x49.Idx)
    (h0 : (k 0).val = 1024 * t.val + (j 0).val) (h1 : (k 1).val = (j 1).val) :
    (iblk m c 0 t : Vec F S1024x49 .f32) j = preds m c k := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * (j 0).val = (k 0).val; rw [hi.1, h0]; omega
  | ⟨1, _⟩ => show win0_0.index t 1 * 49 + 1 * (j 1).val = (k 1).val; rw [hi.2, h1]; omega

/-- The output after point `n`: the zero, then one block added per point, the masks those of the whole tables. -/
def chain (c : Dev nD) : (n : ℕ) → n < cfg0.N → Vec F S1x1 .f32
  | 0, h => step (iblk m c 0 ⟨0, h⟩) (maskD (pairs m c)) (maskT (triples m c)) k0_pay4
  | n + 1, h => step (iblk m c 0 ⟨n + 1, h⟩) (maskD (pairs m c)) (maskT (triples m c)) (chain c n (Nat.lt_of_succ_lt h))

/-- The buffers the kernel carries hold, after point `n`, that output and the two masks. -/
theorem outsAt_eq (c : Dev nD) : ∀ (n : ℕ) (h : n < cfg0.N),
    outsAt0 m c n h = (chain m c n h, maskD (pairs m c), maskT (triples m c))
  | 0, h => by
    refine (outsAt0_A m c ⟨0, h⟩ rfl).trans ?_
    rw [out_A, mask_D, mask_T, iblk1, iblk2]
    rfl
  | n + 1, h => by
    have hN : cfg0.N = 16 := N_0
    have hB : ¬(⟨n + 1, h⟩ : Fin cfg0.N).val % 16 = 0 := by dsimp only; omega
    rw [outsAt0_B m c ⟨n + 1, h⟩ hB, out_B]
    show (step _ (outsAt0 m c n _).2.1 (outsAt0 m c n _).2.2 (outsAt0 m c n _).1, (outsAt0 m c n _).2.1, (outsAt0 m c n _).2.2) = _
    rw [outsAt_eq c n]
    rfl

/-- The output array's final contents: the output after the last point. -/
abbrev total (c : Dev nD) : Buf (Elt F) ((c : Thread nD τ).loc main_v0) :=
  chain m c 15 (by rw [show cfg0.N = 16 from N_0]; decide)

/-- The one write-back, at point 15, writes it. -/
theorem flushed_eq (c : Dev nD) (t : Fin cfg0.N) (hf : (cfg0.win 3).flush t = true) :
    (dats m 0 c).flushed 3 t = ((cfg0.win 3).blk t).view.read (Elt F) (total m c) := by
  have hN : cfg0.N = 16 := N_0
  have h3 : t.val = 15 := by have := (flush0_3 t).mp hf; have := t.isLt; omega
  obtain rfl : t = t0_15 := Fin.ext h3
  show (cfg0.win 3).cut (grid0.coords t0_15) ((dats m 0 c).after 3 t0_15) = _
  rw [after0_3, outsAt_eq]
  have hz' : (fun a => win0_3.index t0_15 a * main_v0.ty.shape.size a) = fun _ => 0 :=
    funext fun a => by fin_cases a <;> exact Nat.zero_mul _
  exact (Memref.read_access_unit_zero (Elt F) main_v0 hz' (fun a => by rw [congrFun hz' a]; simp) (total m c)).symm

/-- So the output array ends at the output after the last point. -/
theorem final_out (c : Dev nD) : (dats m 0 c).arrAt 3 cfg0.N = total m c :=
  (dats m 0 c).arrAt_eq_of_cover 3 (total m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The reshape after the region reads the output array: the result buffer is the array in its one-axis shape. -/
theorem tail_eq (c : Dev nD) :
    Pipeline.afterTail₀ cfgs (dats m) 0 (V0 m) [hostOps1] c main_v1 = shapeCast S1 (total m c) shapeCasts_S1x1_S1 := by
  unfold Pipeline.afterTail₀
  show StableHlo.after hostOps1 _ _ = _
  after_results
  have h : Pipeline.withArrays (cfgs 0).spec c (V0 m c) (fun w => (dats m 0 c).arrAt w (cfgs 0).N)
      (Proc.tc.devRef main_v0) = total m c :=
    (Pipeline.withArrays_arr (cfgs 0).spec (by decide) c _ _ 3).trans (final_out m c)
  rw [h]
  rfl

/-- The run, read: the result buffer is the output after the last point in its one-axis shape, the arguments unchanged. -/
theorem run : θ_run defs (onTc (τ := τ) (main (F := F))) ⟨m, fun _ => 0, ρ⟩ fun r => ∀ c : Dev nD,
      r.2.mem ((c.tc : Thread nD τ).loc main_v1) = shapeCast S1 (total m c) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      rw [(h c).2 main_v1 (by decide)]
      exact tail_eq m c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Value

end
-- ==== Proof.Sums.lean ====
/- Sums of extended reals: a count of table entries as a weight, one term picked out of a sum, a nonnegative real
   factor taken out of a sum. No operand need be finite. -/
module

public import Mathlib.Data.EReal.Operations
public import Mathlib.Algebra.BigOperators.Fin
public import Mathlib.Algebra.Order.BigOperators.Group.Finset

@[expose] public section

namespace Cert.Sums

open Finset

/-- One when `a = b`, zero otherwise. -/
noncomputable def hit {α : Type} [DecidableEq α] (a b : α) : EReal := if a = b then 1 else 0

theorem hit_nonneg {α : Type} [DecidableEq α] (a b : α) : 0 ≤ hit a b := by
  unfold hit; split <;> simp

theorem hit_mul_nonneg {α β : Type} [DecidableEq α] [DecidableEq β] (a b : α) (c d : β) : 0 ≤ hit a b * hit c d := by
  unfold hit; split_ifs <;> simp

/-- A sum of nonnegative weights times a value is the sum of the weighted values. -/
theorem sum_mul_nonneg {ι : Type} (s : Finset ι) (w : ι → EReal) (hw : ∀ q, 0 ≤ w q) (x : EReal) :
    (∑ q ∈ s, w q) * x = ∑ q ∈ s, w q * x := by
  classical
  induction s using Finset.induction_on with
  | empty => simp
  | insert a s ha ih =>
    rw [sum_insert ha, sum_insert ha, EReal.right_distrib_of_nonneg (hw a) (sum_nonneg fun q _ => hw q), ih]

/-- A nonnegative real factor comes out of a sum. -/
theorem sum_mul_real {ι : Type} (s : Finset ι) (f : ι → EReal) {c : ℝ} (hc : 0 ≤ c) :
    ∑ q ∈ s, f q * (c : EReal) = (∑ q ∈ s, f q) * (c : EReal) := by
  classical
  induction s using Finset.induction_on with
  | empty => simp
  | insert a s ha ih =>
    rw [sum_insert ha, sum_insert ha, ih,
      EReal.right_distrib_of_nonneg_of_ne_top (EReal.coe_nonneg.2 hc) (EReal.coe_ne_top c)]

/-- Entry `(i, j)` weighted by the number of table rows that name it, summed over the entries, is the sum over the table's
    rows of the entry that each names. -/
theorem sum_counts {ι κ ρ : Type} [Fintype ι] [Fintype κ] [Fintype ρ] [DecidableEq ι] [DecidableEq κ]
    (a : ρ → ι) (b : ρ → κ) (f : ι → κ → EReal) :
    ∑ i, ∑ j, (∑ q, hit i (a q) * hit (b q) j) * f i j = ∑ q, f (a q) (b q) := by
  have h : ∀ i j, (∑ q, hit i (a q) * hit (b q) j) * f i j = ∑ q, hit i (a q) * hit (b q) j * f i j := fun i j =>
    sum_mul_nonneg _ _ (fun q => hit_mul_nonneg _ _ _ _) _
  simp only [h]
  rw [sum_congr rfl fun i _ => sum_comm, sum_comm]
  refine sum_congr rfl fun q _ => ?_
  rw [sum_eq_single (a q), sum_eq_single (b q)]
  · simp [hit]
  · intro j _ hj; simp [hit, hj.symm]
  · simp
  · intro i _ hi; simp [hit, hi]
  · simp

/-- A sum over the rows of consecutive blocks is the sum over all rows. -/
theorem sum_blocks {M : Type} [AddCommMonoid M] (m n : ℕ) (f : ℕ → M) :
    ∑ s : Fin m, ∑ r : Fin n, f (n * s.val + r.val) = ∑ k : Fin (m * n), f k.val := by
  rw [← (finProdFinEquiv (m := m) (n := n)).sum_comp, Fintype.sum_prod_type]
  refine sum_congr rfl fun s _ => sum_congr rfl fun r _ => ?_
  show f _ = f (r.val + n * s.val)
  rw [Nat.add_comm]

end Cert.Sums

end
-- ==== Proof.KBlock.lean ====
/- What one block adds onto the output, in extended reals. -/
module

public import proofs.«01_k».proof.Proof.KPieces
public import proofs.«01_k».proof.Proof.Sums
public import Idealize.ShloMosaic.Lib.Pointwise
public import Idealize.ShloMosaic.Lib.StableHlo.Predicate
public import Idealize.ShloMosaic.PureOps.Ideal.Laws

@[expose] public section

set_option maxRecDepth 16384

noncomputable section

namespace Cert.KernelIdeal.Value

open Cert.KernelIdeal Cert.KernelIdeal.Gen Idealize.ShloMosaic Cert.Sums

/-- A comparison's bit as a number. -/
theorem bit_eq (a b : BitVec 32) :
    FloatOps.sitofp (F := Ideal) .f32 (BitVec.setWidth 32 (IntOp.cmpi .eq a b)) = hit a b := by
  unfold hit
  by_cases h : a = b
  · rw [if_pos h, StableHlo.Predicate.cmpi_eq_iff.2 h]
    show ((((1#32 : BitVec 32).toInt : ℤ) : ℝ) : EReal) = 1
    simp
  · rw [if_neg h, (BitVec.eq_zero_or_eq_one _).resolve_right (fun e => h (StableHlo.Predicate.cmpi_eq_iff.1 e))]
    show ((((0#32 : BitVec 32).toInt : ℤ) : ℝ) : EReal) = 0
    simp

/-- The pair mask counts the pairs that name agent `i` and action `j`. -/
theorem maskD_apply (x1 : Vec Ideal S215x2 .i32) (i : Fin 10) (j : Fin 24) :
    maskD (F := Ideal) x1 (ix2 i j)
      = ∑ q, hit (BitVec.ofNat 32 i.val) (x1 (ix2 q 0)) * hit (x1 (ix2 q 1)) (BitVec.ofNat 32 j.val) := by
  pointwise [maskD, k0_pay2]
  simp only [bit_eq]

/-- The triple mask counts the triples that name agent `i`, and location and action `j / 24` and `j % 24`. -/
theorem maskT_apply (x2 : Vec Ideal S3517x3 .i32) (i : Fin 10) (j : Fin 384) :
    maskT (F := Ideal) x2 (ix2 i j)
      = ∑ q, hit (BitVec.ofNat 32 i.val) (x2 (ix2 q 0))
          * hit (IntOp.addi (IntOp.muli (x2 (ix2 q 2)) 24#32) (x2 (ix2 q 1))) (BitVec.ofNat 32 j.val) := by
  pointwise [maskT, k0_pay3]
  simp only [bit_eq]

/-- Ten terms in the kernel's order. -/
theorem sum_ten (f : Fin 10 → EReal) :
    ∑ i, f i = f 0 + f 1 + f 2 + f 3 + f 4 + f 5 + f 6 + f 7 + f 8 + f 9 := by
  simp only [Fin.sum_univ_castSucc, Fin.sum_univ_zero, zero_add]
  rfl

/-- Row `r`'s pair term under a weight per agent and action. -/
def weightedD (x0 : Vec Ideal S1024x49 .f32) (wd : Vec Ideal S10x24 .f32) (r : Fin 1024) : EReal :=
  ∑ i : Fin 10, ∑ j : Fin 24, wd (ix2 i j) * min (x0 (ix2 r ⟨11 + j.val, by omega⟩)) (x0 (ix2 r ⟨1 + i.val, by omega⟩))

/-- Row `r`'s triple term under a weight per agent and per location and action. -/
def weightedT (x0 : Vec Ideal S1024x49 .f32) (wt : Vec Ideal S10x384 .f32) (r : Fin 1024) : EReal :=
  ∑ i : Fin 10, ∑ j : Fin 384, wt (ix2 i j) * min (x0 (ix2 r ⟨33 + j.val / 24, by omega⟩))
    (min (x0 (ix2 r ⟨11 + j.val % 24, by omega⟩)) (x0 (ix2 r ⟨1 + i.val, by omega⟩)))

/-- The running pair row after eight agents. -/
theorem accD7_apply (x0 : Vec Ideal S1024x49 .f32) (wd : Vec Ideal S10x24 .f32) (r : Fin 1024)
    (f : Fin 10 → EReal) (hf : f = fun i => ∑ j : Fin 24, wd (ix2 i j) * min (x0 (ix2 r ⟨11 + j.val, by omega⟩)) (x0 (ix2 r ⟨1 + i.val, by omega⟩))) :
    accD7 (F := Ideal) x0 wd (ix2 0 r) = f 0 + f 1 + f 2 + f 3 + f 4 + f 5 + f 6 + f 7 := by
  subst hf
  unfold accD7
  unfold_payloads
  pointwise []

/-- The running triple row after eight agents. -/
theorem accT7_apply (x0 : Vec Ideal S1024x49 .f32) (wt : Vec Ideal S10x384 .f32) (r : Fin 1024)
    (f : Fin 10 → EReal) (hf : f = fun i => ∑ j : Fin 384, wt (ix2 i j) * min (x0 (ix2 r ⟨33 + j.val / 24, by omega⟩))
      (min (x0 (ix2 r ⟨11 + j.val % 24, by omega⟩)) (x0 (ix2 r ⟨1 + i.val, by omega⟩)))) :
    accT7 (F := Ideal) x0 wt (ix2 0 r) = f 0 + f 1 + f 2 + f 3 + f 4 + f 5 + f 6 + f 7 := by
  subst hf
  unfold accT7
  unfold_payloads
  pointwise []

/-- The output after a point: the output before it plus, summed over the block's rows, the two weighted terms, each
    times its constant. -/
theorem step_apply (x0 : Vec Ideal S1024x49 .f32) (wd : Vec Ideal S10x24 .f32) (wt : Vec Ideal S10x384 .f32)
    (o : Vec Ideal S1x1 .f32) :
    step (F := Ideal) x0 wd wt o (ix2 0 0) = o (ix2 0 0)
      + ∑ r : Fin 1024, (weightedD x0 wd r * ((3522560⁻¹ : ℝ) : EReal) + weightedT x0 wt r * ((57622528⁻¹ : ℝ) : EReal)) := by
  unfold step
  unfold_payloads
  pointwise []
  have hd : Named.named (F := Ideal) (φ := .f32) κ "mean_d" 0x349868C8#32 = ((3522560⁻¹ : ℝ) : EReal) :=
    IdealRules.named_const.ideal_named_scalar _ _ _ _ rfl
  have ht : Named.named (F := Ideal) (φ := .f32) κ "mean_t" 0x32951290#32 = ((57622528⁻¹ : ℝ) : EReal) :=
    IdealRules.named_const.ideal_named_scalar _ _ _ _ rfl
  rw [hd, ht, Fin.sum_univ_one]
  congr 1
  refine Finset.sum_congr rfl fun r _ => ?_
  rw [accD7_apply x0 wd r _ rfl, accT7_apply x0 wt r _ rfl, weightedD, weightedT, sum_ten, sum_ten]
  rfl

end Cert.KernelIdeal.Value

end
-- ==== Proof.KRow.lean ====
/- With the tables in range, a block's weighted terms are the plain ones. -/
module

public import proofs.«01_k».proof.Proof.KBlock
public import proofs.«01_k».proof.Proof.Terms

@[expose] public section

set_option maxRecDepth 16384

noncomputable section

namespace Cert.KernelIdeal.Value

open Cert.KernelIdeal Cert.KernelIdeal.Gen Idealize.ShloMosaic Cert.Sums Cert.Terms

/-- A number below a word's bound is the word exactly when it is its value. -/
theorem ofNat_eq_iff {n : ℕ} (hn : n ≤ 2 ^ 32) (i : Fin n) {v : BitVec 32} {k : ℕ} (hv : v.toNat = k) :
    BitVec.ofNat 32 i.val = v ↔ i.val = k := by
  have hi := i.isLt
  constructor
  · intro e
    rw [← hv, ← e, BitVec.toNat_ofNat, Nat.mod_eq_of_lt (by omega)]
  · intro e
    apply BitVec.eq_of_toNat_eq
    rw [BitVec.toNat_ofNat, Nat.mod_eq_of_lt (by omega), e, hv]

/-- A match of words is a match of the numbers they hold. -/
theorem hit_left {n : ℕ} (hn : n ≤ 2 ^ 32) (i : Fin n) {v : BitVec 32} {k : Fin n} (hv : v.toNat = k.val) :
    hit (BitVec.ofNat 32 i.val) v = hit i k := by
  unfold hit
  exact if_congr ((ofNat_eq_iff hn i hv).trans Fin.ext_iff.symm) rfl rfl

/-- The same with the sides exchanged. -/
theorem hit_right {n : ℕ} (hn : n ≤ 2 ^ 32) (i : Fin n) {v : BitVec 32} {k : Fin n} (hv : v.toNat = k.val) :
    hit v (BitVec.ofNat 32 i.val) = hit k i := by
  unfold hit
  exact if_congr (eq_comm.trans (((ofNat_eq_iff hn i hv).trans Fin.ext_iff.symm).trans eq_comm)) rfl rfl

/-- The position of a location and an action in the triple mask. -/
theorem place_toNat {l a : BitVec 32} (hl : l.toNat < 16) (ha : a.toNat < 22) :
    (IntOp.addi (IntOp.muli l 24#32) a).toNat = l.toNat * 24 + a.toNat := by
  show (l * 24#32 + a).toNat = _
  rw [BitVec.toNat_add, BitVec.toNat_mul]
  show (l.toNat * 24 % 2 ^ 32 + a.toNat) % 2 ^ 32 = _
  omega

variable (x0 : Vec Ideal S1024x49 .f32) {x1 : Vec Ideal S215x2 .i32} {x2 : Vec Ideal S3517x3 .i32} (h : InRange x1 x2)
include h

/-- The pair term of a block's row. -/
theorem weightedD_eq (r : Fin 1024) : weightedD x0 (maskD x1) r = pairRow x0 x1 r := by
  have e : ∀ (i : Fin 10) (j : Fin 24), maskD (F := Ideal) x1 (ix2 i j)
      = ∑ q, hit i ⟨(x1 (ix2 q 0)).toNat, h.p0 q⟩ * hit (⟨(x1 (ix2 q 1)).toNat, (h.p1 q).trans (by decide)⟩ : Fin 24) j := fun i j => by
    rw [maskD_apply]
    exact Finset.sum_congr rfl fun q _ => by
      rw [hit_left (by decide) i (k := ⟨_, h.p0 q⟩) rfl, hit_right (by decide) j (k := ⟨_, (h.p1 q).trans (by decide)⟩) rfl]
  unfold weightedD pairRow
  simp only [e]
  rw [sum_counts (fun q : Fin 215 => (⟨(x1 (ix2 q 0)).toNat, h.p0 q⟩ : Fin 10))
    (fun q => (⟨(x1 (ix2 q 1)).toNat, (h.p1 q).trans (by decide)⟩ : Fin 24))
    (fun i j => min (x0 (ix2 r ⟨11 + j.val, by omega⟩)) (x0 (ix2 r ⟨1 + i.val, by omega⟩)))]
  refine Finset.sum_congr rfl fun q _ => ?_
  rw [min_comm]
  congr 3
  · exact Fin.ext (col_val (h.p0 q) (by decide)).symm
  · exact Fin.ext (col_val (h.p1 q) (by decide)).symm

/-- The triple term of a block's row. -/
theorem weightedT_eq (r : Fin 1024) : weightedT x0 (maskT x2) r = tripleRow x0 x2 r := by
  have hp : ∀ q, (x2 (ix2 q 2)).toNat * 24 + (x2 (ix2 q 1)).toNat < 384 := fun q => by
    have := h.t1 q; have := h.t2 q; omega
  have e : ∀ (i : Fin 10) (j : Fin 384), maskT (F := Ideal) x2 (ix2 i j)
      = ∑ q, hit i ⟨(x2 (ix2 q 0)).toNat, h.t0 q⟩ * hit (⟨(x2 (ix2 q 2)).toNat * 24 + (x2 (ix2 q 1)).toNat, hp q⟩ : Fin 384) j := fun i j => by
    rw [maskT_apply]
    exact Finset.sum_congr rfl fun q _ => by
      rw [hit_left (by decide) i (k := ⟨_, h.t0 q⟩) rfl, hit_right (by decide) j (k := ⟨_, hp q⟩) (place_toNat (h.t2 q) (h.t1 q))]
  unfold weightedT tripleRow
  simp only [e]
  rw [sum_counts (fun q : Fin 3517 => (⟨(x2 (ix2 q 0)).toNat, h.t0 q⟩ : Fin 10))
    (fun q => (⟨(x2 (ix2 q 2)).toNat * 24 + (x2 (ix2 q 1)).toNat, hp q⟩ : Fin 384))
    (fun i j => min (x0 (ix2 r ⟨33 + j.val / 24, by omega⟩))
      (min (x0 (ix2 r ⟨11 + j.val % 24, by omega⟩)) (x0 (ix2 r ⟨1 + i.val, by omega⟩))))]
  refine Finset.sum_congr rfl fun q _ => ?_
  rw [min_comm, min_comm (x0 _) (x0 _)]
  have h1 := h.t1 q
  congr 4
  · exact Fin.ext (col_val (h.t0 q) (by decide)).symm
  · refine Fin.ext ?_
    rw [col_val (h.t1 q) (by decide)]
    show 11 + (_ * 24 + _) % 24 = _
    omega
  · show 33 + ((x2 (ix2 q 2)).toNat * 24 + (x2 (ix2 q 1)).toNat) / 24 = (col 33 (x2 (ix2 q 2))).val
    rw [col_val (h.t2 q) (by decide)]
    omega

end Cert.KernelIdeal.Value

end
-- ==== Proof.KTotal.lean ====
/- What the kernel's output holds after the last point, with the tables in range. -/
module

public import proofs.«01_k».proof.Proof.KRun
public import proofs.«01_k».proof.Proof.KRow

@[expose] public section

set_option maxRecDepth 16384

noncomputable section

namespace Cert.KernelIdeal.Value

open Cert.KernelIdeal Cert.KernelIdeal.Gen Idealize.ShloMosaic Idealize.SL.Sem Cert.Sums Cert.Terms

variable (m : (ℓ : Loc nD τ sig) → Buf (Elt Ideal) ℓ) (c : Dev nD)

/-- The constant-weighted terms of row `n` of all predictions (zero past the last). -/
def rowTerm (n : ℕ) : EReal :=
  if hn : n < 16384 then pairRow (preds m c) (pairs m c) ⟨n, hn⟩ * ((3522560⁻¹ : ℝ) : EReal)
    + tripleRow (preds m c) (triples m c) ⟨n, hn⟩ * ((57622528⁻¹ : ℝ) : EReal) else 0

variable (h : InRange (pairs m c) (triples m c))
include h

/-- One point adds its block's rows' terms. -/
theorem step_block (t : Fin cfg0.N) (o : Vec Ideal S1x1 .f32) :
    step (F := Ideal) (iblk m c 0 t) (maskD (pairs m c)) (maskT (triples m c)) o (ix2 0 0)
      = o (ix2 0 0) + ∑ r : Fin 1024, rowTerm m c (1024 * t.val + r.val) := by
  have ht : t.val < 16 := t.isLt
  rw [step_apply]
  congr 1
  refine Finset.sum_congr rfl fun r _ => ?_
  have hr := r.isLt
  have hn : 1024 * t.val + r.val < 16384 := by omega
  have hx : ∀ k : Fin 49, (iblk m c 0 t : Vec Ideal S1024x49 .f32) (ix2 r k) = preds m c (ix2 ⟨1024 * t.val + r.val, hn⟩ k) :=
    fun k => iblk0_apply m c t _ _ rfl rfl
  rw [weightedD_eq _ h, weightedT_eq _ h, rowTerm, dif_pos hn]
  simp only [pairRow, tripleRow, hx]

/-- After point `n`: the terms of the rows of the blocks up to it. -/
theorem chain_apply : ∀ (n : ℕ) (hn : n < cfg0.N),
    chain m c n hn (ix2 0 0) = ∑ s : Fin (n + 1), ∑ r : Fin 1024, rowTerm m c (1024 * s.val + r.val)
  | 0, hn => by
    show step _ _ _ _ _ = _
    rw [step_block m c h ⟨0, hn⟩, Fin.sum_univ_one]
    have hz : k0_pay4 (F := Ideal) (ix2 0 0) = 0 := by pointwise [k0_pay4]
    rw [hz, zero_add]
    rfl
  | n + 1, hn => by
    show step _ _ _ _ _ = _
    rw [step_block m c h ⟨n + 1, hn⟩, chain_apply n, Fin.sum_univ_castSucc (n := n + 1)]
    rfl

/-- After the last point: the sum of all pair terms and of all triple terms, each times its constant. -/
theorem total_apply : total m c (ix2 0 0)
    = (∑ n, pairRow (preds m c) (pairs m c) n) * ((3522560⁻¹ : ℝ) : EReal)
      + (∑ n, tripleRow (preds m c) (triples m c) n) * ((57622528⁻¹ : ℝ) : EReal) := by
  show chain m c 15 _ (ix2 0 0) = _
  rw [chain_apply m c h, sum_blocks 16 1024 (rowTerm m c), ← sum_mul_real _ _ (by norm_num),
    ← sum_mul_real _ _ (by norm_num), ← Finset.sum_add_distrib]
  exact Finset.sum_congr rfl fun n _ => dif_pos n.isLt

end Cert.KernelIdeal.Value

end
-- ==== Proof.Take.lean ====
/- Columns of a table taken at given positions, as the reference takes them: a position below zero counts from the end,
   one outside the table reads as a not-a-number. Positions inside the table read the table. -/
module

public import Idealize.ShloMosaic.PureOps
public import Idealize.ShloMosaic.Lib.ReduceAll
public import Idealize.ShloMosaic.Lib.StableHlo.Predicate
public import Idealize.ShloMosaic.Lib.Pointwise
public import Idealize.ShloMosaic.Lib.Pipeline.Value

@[expose] public section

noncomputable section

namespace Cert.Take

open Idealize.ShloMosaic

/-- A gather along the columns: result `(p, q)` is the operand at row `p` and at the column that position `q` names. -/
theorem gather_col {α : Type} {N C n w : Nat} (ss : Fin 2 → Nat)
    (wf : GatherDims.WF ⟨2, ![N, C]⟩ ⟨2, ![n, 1]⟩ ⟨2, ![N, n]⟩ [0] [1] [] [1] [] 1 ss)
    (x : (⟨2, ![N, C]⟩ : Shape).Idx → α) (idx : IVec ⟨2, ![n, 1]⟩ w) (p : Fin N) (q : Fin n) (k : Fin C)
    (hk : (idx (ix2 q 0)).toInt.toNat = k.val) :
    Host.gather (⟨[0], [1], [], [], [1], 1, ss, wf⟩ : GatherDims ⟨2, ![N, C]⟩ ⟨2, ![n, 1]⟩ ⟨2, ![N, n]⟩) x idx (ix2 p q)
      = x (ix2 p k) := by
  set d : GatherDims ⟨2, ![N, C]⟩ ⟨2, ![n, 1]⟩ ⟨2, ![N, n]⟩ := ⟨[0], [1], [], [], [1], 1, ss, wf⟩ with hd
  have hs1 : ss 1 = 1 := d.slice_collapsed 1 (List.mem_singleton.mpr rfl)
  unfold Host.gather
  congr 1
  funext a
  refine Fin.ext ?_
  show d.start (ix2 p q) idx a + d.batchCoord (ix2 p q) a + d.offCoord (ix2 p q) a = _
  rw [GatherDims.batchCoord_eq_zero _ _ _ (fun h => by simp [hd] at h)]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ d.startIndexMap by simp [hd])]
    unfold GatherDims.offCoord
    rw [dif_pos (show (0 : Fin 2) ∈ d.sKept by rw [GatherDims.mem_sKept]; simp [hd])]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ d.startIndexMap from List.mem_singleton.mpr rfl)]
    have hsi : d.siIdx (ix2 p q) ⟨List.idxOf (1 : Fin 2) d.startIndexMap,
        List.idxOf_lt_length_iff.2 (List.mem_singleton.mpr rfl)⟩ = ix2 q 0 := by
      funext b; refine Fin.ext ?_
      match b with
      | ⟨0, _⟩ => rfl
      | ⟨1, _⟩ => rfl
    rw [hsi, hk]
    show min k.val (C - ss 1) + 0 + 0 = k.val
    rw [hs1]
    have := k.isLt
    omega

section
variable {F : FTy → Type} [FloatOps F] {N n : Nat}

/-- The positions after a negative one is counted from the end. -/
def wrap (h0 : (⟨0, ![]⟩ : Shape).BroadcastsInDim ⟨1, ![n]⟩ ![]) (v : IVec ⟨1, ![n]⟩ 32) : IVec ⟨1, ![n]⟩ 32 :=
  select (cmpi .slt v (broadcastInDim _ ![] h0 (constantI ⟨0, ![]⟩ 32 0#32)))
    (addi v (broadcastInDim _ ![] h0 (constantI ⟨0, ![]⟩ 32 49#32))) v

/-- Position inside the table stays. -/
theorem wrap_apply (h0 : (⟨0, ![]⟩ : Shape).BroadcastsInDim ⟨1, ![n]⟩ ![]) (v : IVec ⟨1, ![n]⟩ 32) (i)
    (hv : (v i).toNat < 49) : wrap h0 v i = v i := by
  have e : cmpi .slt v (broadcastInDim _ ![] h0 (constantI ⟨0, ![]⟩ 32 0#32)) i = 0#1 := by
    rcases BitVec.eq_zero_or_eq_one (cmpi .slt v (broadcastInDim _ ![] h0 (constantI ⟨0, ![]⟩ 32 0#32)) i) with h | h
    · exact h
    · exfalso
      have h' : IntOp.cmpi .slt (v i) 0#32 = 1#1 := h
      rw [StableHlo.Predicate.slt_iff_toNat (by omega) (by decide)] at h'
      exact absurd h' (Nat.not_lt_zero _)
  show Scalar.select _ _ _ = _
  rw [e]
  rfl

/-- The columns of `x` at the positions `v`. -/
def takeOf (h0 : (⟨0, ![]⟩ : Shape).BroadcastsInDim ⟨1, ![n]⟩ ![])
    (h1 : (⟨1, ![n]⟩ : Shape).BroadcastsInDim ⟨2, ![n, 1]⟩ ![0])
    (h2 : (⟨0, ![]⟩ : Shape).BroadcastsInDim ⟨2, ![n, 1]⟩ ![])
    (h3 : (⟨1, ![1]⟩ : Shape).BroadcastsInDim ⟨2, ![1, 1]⟩ ![1])
    (h4 : (⟨2, ![1, 1]⟩ : Shape).BroadcastsInDim ⟨2, ![n, 1]⟩ ![0, 1])
    (h5 : (⟨1, ![n]⟩ : Shape).BroadcastsInDim ⟨2, ![N, n]⟩ ![1])
    (h6 : (⟨0, ![]⟩ : Shape).BroadcastsInDim ⟨2, ![N, n]⟩ ![])
    (hr : (⟨2, ![n, 1]⟩ : Shape).ReducesTo [1] ⟨1, ![n]⟩) (hu : 0 < (⟨0, ![]⟩ : Shape).numel)
    (d : GatherDims ⟨2, ![N, 49]⟩ ⟨2, ![n, 1]⟩ ⟨2, ![N, n]⟩)
    (x : FVec F ⟨2, ![N, 49]⟩ .f32) (v : IVec ⟨1, ![n]⟩ 32) : FVec F ⟨2, ![N, n]⟩ .f32 :=
  select
    (broadcastInDim _ ![1] h5 (Host.reduce IntOp.andi
      (andi (cmpi .sge (broadcastInDim _ ![0] h1 (wrap h0 v)) (broadcastInDim _ ![] h2 (constantI ⟨0, ![]⟩ 32 0#32)))
        (cmpi .sle (broadcastInDim _ ![0] h1 (wrap h0 v))
          (broadcastInDim _ ![0, 1] h4 (broadcastInDim _ ![1] h3 (constantI ⟨1, ![1]⟩ 32 48#32)))))
      (constantI ⟨0, ![]⟩ 1 1#1) hr hu))
    (Host.gather d x (broadcastInDim _ ![0] h1 (wrap h0 v)))
    (broadcastInDim _ ![] h6 (constant ⟨0, ![]⟩ .f32 0x7FC00000#32))

/-- A vector as a column, read at any row. -/
theorem bcast_col {α : Type} (h1 : (⟨1, ![n]⟩ : Shape).BroadcastsInDim ⟨2, ![n, 1]⟩ ![0])
    (v : (⟨1, ![n]⟩ : Shape).Idx → α) (i : (⟨2, ![n, 1]⟩ : Shape).Idx) :
    broadcastInDim _ ![0] h1 v i = v (ix1 (i 0)) :=
  broadcastInDim_apply _ h1 v i (ix1 (i 0)) (fun a => by
    match a with
    | ⟨0, _⟩ =>
      show (i 0).val = if n = 1 then 0 else (i 0).val
      split
      · have := (i 0).isLt
        have e : (⟨2, ![n, 1]⟩ : Shape).size 0 = n := rfl
        omega
      · rfl)

/-- With every position inside the table, the columns taken are the table's. -/
theorem takeOf_apply (h0 : (⟨0, ![]⟩ : Shape).BroadcastsInDim ⟨1, ![n]⟩ ![])
    (h1 : (⟨1, ![n]⟩ : Shape).BroadcastsInDim ⟨2, ![n, 1]⟩ ![0])
    (h2 : (⟨0, ![]⟩ : Shape).BroadcastsInDim ⟨2, ![n, 1]⟩ ![])
    (h3 : (⟨1, ![1]⟩ : Shape).BroadcastsInDim ⟨2, ![1, 1]⟩ ![1])
    (h4 : (⟨2, ![1, 1]⟩ : Shape).BroadcastsInDim ⟨2, ![n, 1]⟩ ![0, 1])
    (h5 : (⟨1, ![n]⟩ : Shape).BroadcastsInDim ⟨2, ![N, n]⟩ ![1])
    (h6 : (⟨0, ![]⟩ : Shape).BroadcastsInDim ⟨2, ![N, n]⟩ ![])
    (hr : (⟨2, ![n, 1]⟩ : Shape).ReducesTo [1] ⟨1, ![n]⟩) (hu : 0 < (⟨0, ![]⟩ : Shape).numel) (ss : Fin 2 → Nat)
    (wf : GatherDims.WF ⟨2, ![N, 49]⟩ ⟨2, ![n, 1]⟩ ⟨2, ![N, n]⟩ [0] [1] [] [1] [] 1 ss)
    (x : FVec F ⟨2, ![N, 49]⟩ .f32) (v : IVec ⟨1, ![n]⟩ 32) (hv : ∀ q : Fin n, (v (ix1 q)).toNat < 49)
    (p : Fin N) (q : Fin n) :
    takeOf h0 h1 h2 h3 h4 h5 h6 hr hu ⟨[0], [1], [], [], [1], 1, ss, wf⟩ x v (ix2 p q)
      = x (ix2 p ⟨(v (ix1 q)).toNat, hv q⟩) := by
  have hw : ∀ i, broadcastInDim _ ![0] h1 (wrap h0 v) i = v (ix1 (i 0)) := fun i =>
    (bcast_col h1 (wrap h0 v) i).trans (wrap_apply h0 v _ (hv _))
  have hm : ∀ j, Host.reduce IntOp.andi
      (andi (cmpi .sge (broadcastInDim _ ![0] h1 (wrap h0 v)) (broadcastInDim _ ![] h2 (constantI ⟨0, ![]⟩ 32 0#32)))
        (cmpi .sle (broadcastInDim _ ![0] h1 (wrap h0 v))
          (broadcastInDim _ ![0, 1] h4 (broadcastInDim _ ![1] h3 (constantI ⟨1, ![1]⟩ 32 48#32)))))
      (constantI ⟨0, ![]⟩ 1 1#1) hr hu j = 1#1 := fun j =>
    Host.reduce_andi_one _ _ _ _ _ rfl fun i => by
      have hi := hv (i 0)
      show IntOp.andi (IntOp.cmpi .sge (broadcastInDim _ ![0] h1 (wrap h0 v) i) 0#32)
        (IntOp.cmpi .sle (broadcastInDim _ ![0] h1 (wrap h0 v) i) 48#32) = 1#1
      rw [hw i, (StableHlo.Predicate.sge_iff_toNat (by omega) (by decide)).2 (Nat.zero_le _),
        (StableHlo.Predicate.sle_iff_toNat (by omega) (by decide)).2 (by show _ ≤ 48; omega)]
      rfl
  unfold takeOf
  show Scalar.select (Host.reduce IntOp.andi _ _ hr hu _) _ _ = _
  rw [hm]
  show Host.gather _ x _ _ = _
  refine gather_col ss wf x _ p q ⟨(v (ix1 q)).toNat, hv q⟩ ?_
  rw [hw]
  show (v (ix1 q)).toInt.toNat = _
  have := hv q
  rw [StableHlo.Predicate.toInt_eq_toNat_of_lt (by omega)]
  rfl

end

end Cert.Take

end
-- ==== Proof.RefTakes.lean ====
/- The five arrays of columns that the reference takes, read at an index. -/
module

public import proofs.«01_k».proof.Proof.Gen.ReferenceIdeal.Read
public import proofs.«01_k».proof.Proof.Take
public import proofs.«01_k».proof.Proof.Terms

@[expose] public section

set_option maxRecDepth 16384

noncomputable section

namespace Cert.ReferenceIdeal.Closed

open Cert.ReferenceIdeal Cert.ReferenceIdeal.Gen Cert.ReferenceIdeal.Read Idealize.ShloMosaic Cert.Terms Cert.Take

variable (x0 : FVec Ideal S16384x49 .f32) (x1 : IVec S215x2 32) (x2 : IVec S3517x3 32)

/-- An offset added to a small word. -/
theorem add_toNat {k b : ℕ} {v : BitVec 32} (h : v.toNat < b) (hb : k + b ≤ 49) :
    (IntOp.addi (BitVec.ofNat 32 k) v).toNat = (col k v).val := by
  rw [col_val h hb]
  show ((BitVec.ofNat 32 k) + v).toNat = _
  rw [BitVec.toNat_add, BitVec.toNat_ofNat, Nat.mod_eq_of_lt (by omega : k < 2 ^ 32), Nat.mod_eq_of_lt (by omega)]

/-- The positions of the pair table's agents, -/
theorem v4_apply (q : Fin 215) : val_main_v4 (F := Ideal) x1 (ix1 q) = IntOp.addi 1#32 (x1 (ix2 q 0)) := by
  pointwise [val_main_v4, val_main_v3, val_main_v2, val_main_v1, val_main_c]
/-- of its actions, -/
theorem v9_apply (q : Fin 215) : val_main_v9 (F := Ideal) x1 (ix1 q) = IntOp.addi 11#32 (x1 (ix2 q 1)) := by
  pointwise [val_main_v9, val_main_v8, val_main_v7, val_main_v6, val_main_c_0]
/-- of the triple table's agents, -/
theorem v19_apply (q : Fin 3517) : val_main_v19 (F := Ideal) x2 (ix1 q) = IntOp.addi 1#32 (x2 (ix2 q 0)) := by
  pointwise [val_main_v19, val_main_v18, val_main_v17, val_main_v16, val_main_c_3]
/-- of its actions, -/
theorem v24_apply (q : Fin 3517) : val_main_v24 (F := Ideal) x2 (ix1 q) = IntOp.addi 11#32 (x2 (ix2 q 1)) := by
  pointwise [val_main_v24, val_main_v23, val_main_v22, val_main_v21, val_main_c_4]
/-- and of its locations. -/
theorem v29_apply (q : Fin 3517) : val_main_v29 (F := Ideal) x2 (ix1 q) = IntOp.addi 33#32 (x2 (ix2 q 2)) := by
  pointwise [val_main_v29, val_main_v28, val_main_v27, val_main_v26, val_main_c_5]

/-- Columns taken at positions that are an offset plus a table's entries. -/
theorem take_at {n off b : ℕ} {f : FVec Ideal ⟨2, ![16384, n]⟩ .f32} {v : IVec ⟨1, ![n]⟩ 32} {g : Fin n → BitVec 32}
    (hg : ∀ q, v (ix1 q) = IntOp.addi (BitVec.ofNat 32 off) (g q)) (hb : ∀ q, (g q).toNat < b) (ho : off + b ≤ 49)
    (hf : ∀ (hv : ∀ q : Fin n, (v (ix1 q)).toNat < 49) p q, f (ix2 p q) = x0 (ix2 p ⟨(v (ix1 q)).toNat, hv q⟩))
    (p : Fin 16384) (q : Fin n) : f (ix2 p q) = x0 (ix2 p (col off (g q))) := by
  have e : ∀ q, (v (ix1 q)).toNat = (col off (g q)).val := fun q => by rw [hg, add_toNat (hb q) ho]
  rw [hf (fun q => by rw [e]; exact (col off (g q)).isLt)]
  congr 2
  exact Fin.ext (e q)

variable {x1 x2} (h : InRange x1 x2)
include h

/-- The pair table's agents' columns, -/
theorem v5_apply (p : Fin 16384) (q : Fin 215) :
    val_main_v5 (F := Ideal) x0 x1 (ix2 p q) = x0 (ix2 p (col 1 (x1 (ix2 q 0)))) :=
  take_at x0 (v4_apply x1) h.p0 (by decide) (takeOf_apply bcast_S_S215 bcast_S215_S215x1_0 bcast_S_S215x1 bcast_S1_S1x1_1
    bcast_S1x1_S215x1_0_1 bcast_S215_S16384x215_1 bcast_S_S16384x215 reducesTo_S215x1_S215_d1 h_S_ _ _ x0 _) p q

/-- its actions' columns, -/
theorem v10_apply (p : Fin 16384) (q : Fin 215) :
    val_main_v10 (F := Ideal) x0 x1 (ix2 p q) = x0 (ix2 p (col 11 (x1 (ix2 q 1)))) :=
  take_at x0 (v9_apply x1) h.p1 (by decide) (takeOf_apply bcast_S_S215 bcast_S215_S215x1_0 bcast_S_S215x1 bcast_S1_S1x1_1
    bcast_S1x1_S215x1_0_1 bcast_S215_S16384x215_1 bcast_S_S16384x215 reducesTo_S215x1_S215_d1 h_S_ _ _ x0 _) p q

/-- the triple table's agents' columns, -/
theorem v20_apply (p : Fin 16384) (q : Fin 3517) :
    val_main_v20 (F := Ideal) x0 x2 (ix2 p q) = x0 (ix2 p (col 1 (x2 (ix2 q 0)))) :=
  take_at x0 (v19_apply x2) h.t0 (by decide) (takeOf_apply bcast_S_S3517 bcast_S3517_S3517x1_0 bcast_S_S3517x1 bcast_S1_S1x1_1
    bcast_S1x1_S3517x1_0_1 bcast_S3517_S16384x3517_1 bcast_S_S16384x3517 reducesTo_S3517x1_S3517_d1 h_S_ _ _ x0 _) p q

/-- its actions' columns, -/
theorem v25_apply (p : Fin 16384) (q : Fin 3517) :
    val_main_v25 (F := Ideal) x0 x2 (ix2 p q) = x0 (ix2 p (col 11 (x2 (ix2 q 1)))) :=
  take_at x0 (v24_apply x2) h.t1 (by decide) (takeOf_apply bcast_S_S3517 bcast_S3517_S3517x1_0 bcast_S_S3517x1 bcast_S1_S1x1_1
    bcast_S1x1_S3517x1_0_1 bcast_S3517_S16384x3517_1 bcast_S_S16384x3517 reducesTo_S3517x1_S3517_d1 h_S_ _ _ x0 _) p q

/-- and its locations' columns. -/
theorem v30_apply (p : Fin 16384) (q : Fin 3517) :
    val_main_v30 (F := Ideal) x0 x2 (ix2 p q) = x0 (ix2 p (col 33 (x2 (ix2 q 2)))) :=
  take_at x0 (v29_apply x2) h.t2 (by decide) (takeOf_apply bcast_S_S3517 bcast_S3517_S3517x1_0 bcast_S_S3517x1 bcast_S1_S1x1_1
    bcast_S1x1_S3517x1_0_1 bcast_S3517_S16384x3517_1 bcast_S_S16384x3517 reducesTo_S3517x1_S3517_d1 h_S_ _ _ x0 _) p q

end Cert.ReferenceIdeal.Closed

end
-- ==== Proof.Consts.lean ====
/- The float literals of the two programs as numbers. -/
module

public import Idealize.ShloMosaic.PureOps.Ideal.Laws

@[expose] public section

namespace Cert.Consts

open Idealize.ShloMosaic

/-- The number of (row, pair) entries, 16384 · 215. -/
theorem ofBits_pairs : Ideal.ofBits .f32 0x4A570000#32 = ((3522560 : ℝ) : EReal) := by
  simp [Ideal.ofBits, Ideal.ieee, -EReal.coe_mul]; norm_num

/-- The number of (row, triple) entries, 16384 · 3517. -/
theorem ofBits_triples : Ideal.ofBits .f32 0x4C5BD000#32 = ((57622528 : ℝ) : EReal) := by
  simp [Ideal.ofBits, Ideal.ieee, -EReal.coe_mul]; norm_num

end Cert.Consts
-- ==== Proof.RefValue.lean ====
/- The reference's result: the mean pair term plus the mean triple term. -/
module

public import proofs.«01_k».proof.Proof.RefTakes
public import proofs.«01_k».proof.Proof.Consts

@[expose] public section

set_option maxRecDepth 16384

noncomputable section

namespace Cert.ReferenceIdeal.Closed

open Cert.ReferenceIdeal Cert.ReferenceIdeal.Gen Cert.ReferenceIdeal.Read Idealize.ShloMosaic Cert.Terms

variable (x0 : FVec Ideal S16384x49 .f32) {x1 : IVec S215x2 32} {x2 : IVec S3517x3 32} (h : InRange x1 x2)
include h

/-- The sum of the pair terms, -/
theorem v12_apply : val_main_v12 (F := Ideal) x0 x1 ix0 = ∑ n, pairRow x0 x1 n := by
  pointwise [val_main_v12, val_main_v11, val_main_cst_1]
  simp only [v5_apply x0 h, v10_apply x0 h, pairRow]

/-- the sum of the triple terms, -/
theorem v33_apply : val_main_v33 (F := Ideal) x0 x2 ix0 = ∑ n, tripleRow x0 x2 n := by
  pointwise [val_main_v33, val_main_v32, val_main_v31, val_main_cst_6]
  simp only [v20_apply x0 h, v25_apply x0 h, v30_apply x0 h, tripleRow]

/-- and the result. -/
theorem v38_apply : val_main_v38 (F := Ideal) x0 x1 x2 (ix1 0)
    = (∑ n, pairRow x0 x1 n) * ((3522560⁻¹ : ℝ) : EReal) + (∑ n, tripleRow x0 x2 n) * ((57622528⁻¹ : ℝ) : EReal) := by
  pointwise [val_main_v38, val_main_v37, val_main_cst_8, val_main_v36, val_main_v35, val_main_v34, val_main_cst_7,
    val_main_v15, val_main_v14, val_main_v13, val_main_cst_2, val_main_v0, val_main_cst]
  rw [v12_apply x0 h, v33_apply x0 h]
  rw [Consts.ofBits_pairs, Consts.ofBits_triples, Ideal.div_coe (by norm_num), Ideal.div_coe (by norm_num), one_div, one_div]

end Cert.ReferenceIdeal.Closed

end
-- ==== Proof.Equation.lean ====
/- The kernel's result equals the reference's at equal arguments with the tables in range. -/
module

public import proofs.«01_k».proof.Proof.KTotal
public import proofs.«01_k».proof.Proof.RefValue

@[expose] public section

set_option maxRecDepth 16384

noncomputable section

namespace Cert.Equation

open Idealize.ShloMosaic Idealize.SL.Sem Cert.Terms

/-- The one element of the reference's result is the kernel's. -/
theorem result_eq
    (m : (ℓ : Loc Cert.KernelIdeal.nD Cert.KernelIdeal.τ Cert.KernelIdeal.sig) → Buf (Elt Ideal) ℓ)
    (c : Dev Cert.KernelIdeal.nD)
    (h : InRange (Cert.KernelIdeal.Value.pairs m c) (Cert.KernelIdeal.Value.triples m c)) :
    Cert.ReferenceIdeal.Read.val_main_v38 (F := Ideal) (Cert.KernelIdeal.Value.preds m c)
        (Cert.KernelIdeal.Value.pairs m c) (Cert.KernelIdeal.Value.triples m c)
      = shapeCast Cert.KernelIdeal.S1 (Cert.KernelIdeal.Value.total m c) Cert.KernelIdeal.Gen.shapeCasts_S1x1_S1 := by
  funext j
  obtain rfl : j = ix1 0 := by
    refine (eq_ix1 j).trans ?_
    congr 1
    exact Subsingleton.elim (α := Fin 1) _ _
  have e : shapeCast Cert.KernelIdeal.S1 (Cert.KernelIdeal.Value.total m c) Cert.KernelIdeal.Gen.shapeCasts_S1x1_S1 (ix1 0)
      = Cert.KernelIdeal.Value.total m c (ix2 0 0) := by
    pointwise []
  exact (Cert.ReferenceIdeal.Closed.v38_apply _ h).trans ((Cert.KernelIdeal.Value.total_apply m c h).symm.trans e.symm)

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.PreRange
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two constants that the kernel folds are named the reciprocals that they round. -/
theorem preserves : Cert.preserves_Kernel_KernelIdeal :=
  ⟨IdealRules.named_const.statement Cert.KernelIdeal.κ "mean_d" .f32 0x349868C8#32 ((3522560⁻¹ : ℝ) : EReal) rfl,
   IdealRules.named_const.statement Cert.KernelIdeal.κ "mean_t" .f32 0x32951290#32 ((57622528⁻¹ : ℝ) : EReal) rfl⟩

/-- From equal arguments with the tables in range, the kernel and the reference end with equal results. -/
theorem algebraic : Cert.algebraic_KernelIdeal_ReferenceIdeal_pre_in_range := by
  intro m ρ m' ρ' hpre hagree
  refine ⟨_, Cert.KernelIdeal.Value.run (F := Ideal) m ρ, ?_⟩
  refine (θ_run _ _ _).mono (fun _ h c => ⟨(h c).1.trans ?_, (h c).2⟩) (Cert.ReferenceIdeal.Value.run (F := Ideal) m' ρ')
  rw [Cert.ReferenceIdeal.Read.val_main_v38_eq, (hagree c).1, (hagree c).2.1, (hagree c).2.2]
  exact Cert.Equation.result_eq m c (Cert.PreRange.inRange _ _ _ (hpre c))

/-- Everything the certificate claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
